-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_visible [hPre_finite_and_visible : Cert.Pre_finite_and_visible.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_visible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_visible [hPre_finite_and_visible : Cert.Pre_finite_and_visible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_visible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_visible [hKernelIdeal : Cert.KernelIdeal.Facts] [hPre_finite_and_visible : Cert.Pre_finite_and_visible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_visible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_visible [hReferenceIdeal : Cert.ReferenceIdeal.Facts] [hPre_finite_and_visible : Cert.Pre_finite_and_visible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_visible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_visible [hKernelIdeal : Cert.KernelIdeal.Facts] [hReferenceIdeal : Cert.ReferenceIdeal.Facts] [hPre_finite_and_visible : Cert.Pre_finite_and_visible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_visible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_and_visible : Cert.Pre_finite_and_visible.Facts),
    quiescent_Kernel (hKernel := hKernel)
    ∧ quiescent_KernelIdeal (hKernelIdeal := hKernelIdeal)
    ∧ quiescent_KernelIdeal_pre_finite_and_visible (hKernelIdeal := hKernelIdeal) (hPre_finite_and_visible := hPre_finite_and_visible)
    ∧ quiescent_ReferenceIdeal (hReferenceIdeal := hReferenceIdeal)
    ∧ quiescent_ReferenceIdeal_pre_finite_and_visible (hReferenceIdeal := hReferenceIdeal) (hPre_finite_and_visible := hPre_finite_and_visible)
    ∧ preserves_Kernel_KernelIdeal
    ∧ algebraic_KernelIdeal_ReferenceIdeal_pre_finite_and_visible (hKernelIdeal := hKernelIdeal) (hReferenceIdeal := hReferenceIdeal) (hPre_finite_and_visible := hPre_finite_and_visible)
-- ==== Pre_finite_and_visible.lean ====
abbrev S1x2048x12x64 : Shape := ⟨4, ![1, 2048, 12, 64]⟩
abbrev S1x1x1x1 : Shape := ⟨4, ![1, 1, 1, 1]⟩
abbrev S2048 : Shape := ⟨1, ![2048]⟩
abbrev S_ : Shape := ⟨0, ![]⟩
abbrev S1x1x64x7 : Shape := ⟨4, ![1, 1, 64, 7]⟩

class Facts : Prop where
  bcast_S_S1x2048x12x64 : S_.BroadcastsInDim S1x2048x12x64 (![] : Fin 0 → Fin S1x2048x12x64.rank)
  reducesTo_S1x2048x12x64_S_d0_1_2_3 : S1x2048x12x64.ReducesTo [0, 1, 2, 3] S_
  h_S_ : 0 < S_.numel
  reducesTo_S1x1x1x1_S_d0_1_2_3 : S1x1x1x1.ReducesTo [0, 1, 2, 3] S_

variable [Facts]

def fn {F : FTy → Type} [FloatOps F] (main_arg0 : FVec F S1x2048x12x64 .f32) (main_arg1 : FVec F S1x2048x12x64 .f32) (main_arg2 : FVec F S1x2048x12x64 .f32) (main_arg3 : IVec S1x1x1x1 1) (main_arg4 : IVec S2048 32) (main_arg5 : IVec S_ 32) (main_arg6 : FVec F S1x1x64x7 .f32) : IVec S_ 1 :=
  let main_v0 : FVec F S1x2048x12x64 .f32 := Host.absf main_arg0
  let main_cst : FVec F S_ .f32 := constant S_ .f32 0x7F800000#32
  let main_v1 : FVec F S1x2048x12x64 .f32 := broadcastInDim S1x2048x12x64 ![] bcast_S_S1x2048x12x64 main_cst
  let main_v2 : IVec S1x2048x12x64 1 := cmpf .olt main_v0 main_v1
  let main_c : IVec S_ 1 := constantI S_ 1 1#1
  let main_v3 : IVec S_ 1 := (fun x v => Host.reduce IntOp.andi x v reducesTo_S1x2048x12x64_S_d0_1_2_3 h_S_) main_v2 main_c
  let main_v4 : FVec F S1x2048x12x64 .f32 := Host.absf main_arg1
  let main_cst_0 : FVec F S_ .f32 := constant S_ .f32 0x7F800000#32
  let main_v5 : FVec F S1x2048x12x64 .f32 := broadcastInDim S1x2048x12x64 ![] bcast_S_S1x2048x12x64 main_cst_0
  let main_v6 : IVec S1x2048x12x64 1 := cmpf .olt main_v4 main_v5
  let main_c_1 : IVec S_ 1 := constantI S_ 1 1#1
  let main_v7 : IVec S_ 1 := (fun x v => Host.reduce IntOp.andi x v reducesTo_S1x2048x12x64_S_d0_1_2_3 h_S_) main_v6 main_c_1
  let main_v8 : IVec S_ 1 := andi main_v3 main_v7
  let main_c_2 : IVec S_ 1 := constantI S_ 1 1#1
  let main_v9 : IVec S_ 1 := (fun x v => Host.reduce IntOp.andi x v reducesTo_S1x1x1x1_S_d0_1_2_3 h_S_) main_arg3 main_c_2
  let main_v10 : IVec S_ 1 := andi main_v8 main_v9
  main_v10
-- ==== Kernel.lean ====
abbrev S1x2048x12x64 : Shape := ⟨4, ![1, 2048, 12, 64]⟩
abbrev S1x1x1x1 : Shape := ⟨4, ![1, 1, 1, 1]⟩
abbrev S2048 : Shape := ⟨1, ![2048]⟩
abbrev S_ : Shape := ⟨0, ![]⟩
abbrev S1x1x64x7 : Shape := ⟨4, ![1, 1, 64, 7]⟩
abbrev S1x12x2048x64 : Shape := ⟨4, ![1, 12, 2048, 64]⟩
abbrev S12x2048x64 : Shape := ⟨3, ![12, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S1x2048x12x64, .f32⟩
  | .hbm, ⟨1, _⟩ => ⟨S1x2048x12x64, .f32⟩
  | .hbm, ⟨2, _⟩ => ⟨S1x2048x12x64, .f32⟩
  | .hbm, ⟨3, _⟩ => ⟨S1x1x1x1, .i1⟩
  | .hbm, ⟨4, _⟩ => ⟨S2048, .i32⟩
  | .hbm, ⟨5, _⟩ => ⟨S_, .i32⟩
  | .hbm, ⟨6, _⟩ => ⟨S1x1x64x7, .f32⟩
  | .hbm, ⟨7, _⟩ => ⟨S1x12x2048x64, .f32⟩
  | .hbm, ⟨8, _⟩ => ⟨S12x2048x64, .f32⟩
  | .hbm, ⟨9, _⟩ => ⟨S1x12x2048x64, .f32⟩
  | .hbm, ⟨10, _⟩ => ⟨S12x2048x64, .f32⟩
  | .hbm, ⟨11, _⟩ => ⟨S1x12x2048x64, .f32⟩
  | .hbm, ⟨12, _⟩ => ⟨S12x2048x64, .f32⟩
  | .hbm, ⟨13, _⟩ => ⟨S12x2048x64, .f32⟩
  | .hbm, ⟨14, _⟩ => ⟨S1x12x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x2048x12x64 : Shape := ⟨4, ![1, 2048, 12, 64]⟩
abbrev S1x1x1x1 : Shape := ⟨4, ![1, 1, 1, 1]⟩
abbrev S2048 : Shape := ⟨1, ![2048]⟩
abbrev S_ : Shape := ⟨0, ![]⟩
abbrev S1x1x64x7 : Shape := ⟨4, ![1, 1, 64, 7]⟩
abbrev S1x12x2048x64 : Shape := ⟨4, ![1, 12, 2048, 64]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S1x2048x12x64, .f32⟩
  | .hbm, ⟨1, _⟩ => ⟨S1x2048x12x64, .f32⟩
  | .hbm, ⟨2, _⟩ => ⟨S1x2048x12x64, .f32⟩
  | .hbm, ⟨3, _⟩ => ⟨S1x1x1x1, .i1⟩
  | .hbm, ⟨4, _⟩ => ⟨S2048, .i32⟩
  | .hbm, ⟨5, _⟩ => ⟨S_, .i32⟩
  | .hbm, ⟨6, _⟩ => ⟨S1x1x64x7, .f32⟩
  | .hbm, ⟨7, _⟩ => ⟨S1x12x2048x64, .f32⟩
  | .hbm, ⟨8, _⟩ => ⟨S1x12x2048x64, .f32⟩
  | .hbm, ⟨9, _⟩ => ⟨S1x12x2048x64, .f32⟩
  | .hbm, ⟨10, _⟩ => ⟨S1x12x2048x2048, .f32⟩
  | .hbm, ⟨11, _⟩ => ⟨S_, .f32⟩
  | .hbm, ⟨12, _⟩ => ⟨S_, .f32⟩
  | .hbm, ⟨13, _⟩ => ⟨S1x12x2048x2048, .f32⟩
  | .hbm, ⟨14, _⟩ => ⟨S1x12x2048x2048, .f32⟩
  | .hbm, ⟨15, _⟩ => ⟨S_, .f32⟩
  | .hbm, ⟨16, _⟩ => ⟨S_, .f32⟩
  | .hbm, ⟨17, _⟩ => ⟨S1x12x2048x2048, .i1⟩
  | .hbm, ⟨18, _⟩ => ⟨S1x12x2048x2048, .f32⟩
  | .hbm, ⟨19, _⟩ => ⟨S1x12x2048x2048, .f32⟩
  | .hbm, ⟨20, _⟩ => ⟨S_, .f32⟩
  | .hbm, ⟨21, _⟩ => ⟨S1x12x2048, .f32⟩
  | .hbm, ⟨22, _⟩ => ⟨S_, .f32⟩
  | .hbm, ⟨23, _⟩ => ⟨S1x12x2048, .f32⟩
  | .hbm, ⟨24, _⟩ => ⟨S1x12x2048, .f32⟩
  | .hbm, ⟨25, _⟩ => ⟨S1x12x2048x1, .f32⟩
  | .hbm, ⟨26, _⟩ => ⟨S1x12x2048x2048, .f32⟩
  | .hbm, ⟨27, _⟩ => ⟨S1x12x2048x2048, .f32⟩
  | .hbm, ⟨28, _⟩ => ⟨S1x12x2048x2048, .f32⟩
  | .hbm, ⟨29, _⟩ => ⟨S_, .f32⟩
  | .hbm, ⟨30, _⟩ => ⟨S1x12x2048, .f32⟩
  | .hbm, ⟨31, _⟩ => ⟨S1x12x2048x1, .f32⟩
  | .hbm, ⟨32, _⟩ => ⟨S1x12x2048x2048, .f32⟩
  | .hbm, ⟨33, _⟩ => ⟨S1x12x2048x2048, .f32⟩
  | .hbm, ⟨34, _⟩ => ⟨S1x12x2048x64, .f32⟩
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Proof.Softmax.lean ====
/-
  Softmax over the extended reals. One row of attention has scores `s j`, all of them real numbers, and values `v j`,
  any extended reals. Here it is shown that the row's output does not depend on how the softmax is written:

    * `exp (s j)` weighted into the values, the sum divided at the end by `∑ exp (s j)` (no maximum subtracted);
    * each weight `exp (s j - M) / ∑ exp (s j - M)` formed first, `M` the row's maximum.

  And the two ways to scale a score agree: the factor 1/8 on each entry of the query, or a division of the whole
  product by the square root of 64.
-/
module

public import Idealize.ShloMosaic.PureOps.Ideal.Laws

@[expose] public section

noncomputable section

namespace Cert.Softmax

open Idealize.ShloMosaic

/-- The extended real `x` is a real number. -/
def IsReal (x : EReal) : Prop := ∃ r : ℝ, x = (r : EReal)

/-- The product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real. -/
theorem IsReal.sum {ι : Type*} (t : Finset ι) (f : ι → EReal) (h : ∀ i, IsReal (f i)) : IsReal (∑ i ∈ t, f i) := by
  choose g hg using h
  classical
  refine ⟨∑ i ∈ t, g i, ?_⟩
  induction t using Finset.induction_on with
  | empty => simp
  | insert i t hi ih => rw [Finset.sum_insert hi, Finset.sum_insert hi, ih, hg i, EReal.coe_add]

/-- A nonnegative real factor moves out of a finite sum of extended reals, infinite terms included. -/
theorem sum_mul_real {ι : Type*} (t : Finset ι) (f : ι → EReal) {c : ℝ} (hc : 0 ≤ c) :
    ∑ i ∈ t, f i * (c : EReal) = (∑ i ∈ t, f i) * (c : EReal) := by
  classical
  induction t using Finset.induction_on with
  | empty => simp
  | insert i t hi ih =>
    rw [Finset.sum_insert hi, Finset.sum_insert hi, ih,
      EReal.right_distrib_of_nonneg_of_ne_top (EReal.coe_nonneg.mpr hc) (EReal.coe_ne_top c)]

/-- The kernel's literal scale is 1/8. -/
theorem scale_eq : Ideal.ofBits .f32 0x3E000000#32 = ((1 / 8 : ℝ) : EReal) := by
  simp [Ideal.ofBits, Ideal.ieee, -EReal.coe_mul]; norm_num

/-- The reference's head size is 64, and its square root is 8. -/
theorem root_eq : Ideal.sqrt (Ideal.ofBits .f32 0x42800000#32) = ((8 : ℝ) : EReal) := by
  have h : Ideal.ofBits .f32 0x42800000#32 = ((64 : ℝ) : EReal) := by
    simp [Ideal.ofBits, Ideal.ieee, -EReal.coe_mul]; norm_num
  have h8 : Real.sqrt 64 = 8 := by
    rw [show (64 : ℝ) = 8 ^ 2 by norm_num]; exact Real.sqrt_sq (by norm_num)
  rw [h]
  show (if (64 : ℝ) < 0 then (⊥ : EReal) else ((Real.sqrt 64 : ℝ) : EReal)) = _
  rw [if_neg (by norm_num), h8]

/-- The pattern of negative infinity denotes the least extended real. -/
theorem negInf_eq : Ideal.ofBits .f32 0xFF800000#32 = ⊥ := by simp [Ideal.ofBits, Ideal.ieee]

/-- The pattern of positive infinity denotes the greatest extended real. -/
theorem posInf_eq : Ideal.ofBits .f32 0x7F800000#32 = ⊤ := by simp [Ideal.ofBits, Ideal.ieee]

/-- One score: the query scaled by 1/8 before the product, or the product divided by the square root of 64. -/
theorem score_eq {n : ℕ} (q k : Fin n → EReal) :
    ∑ e, q e * Ideal.ofBits .f32 0x3E000000#32 * k e
      = Ideal.div (∑ e, q e * k e) (Ideal.sqrt (Ideal.ofBits .f32 0x42800000#32)) := by
  rw [root_eq, scale_eq, Ideal.div_coe (by norm_num), ← sum_mul_real _ _ (by norm_num)]
  exact Finset.sum_congr rfl fun e _ => mul_right_comm _ _ _

/-- The maximum of finitely many real numbers, at least one, is real (the fold starts at negative infinity). -/
theorem max_isReal {n : ℕ} (hn : 0 < n) (s : Fin n → EReal) (hs : ∀ j, IsReal (s j)) :
    IsReal (max ⊥ (Finset.univ.fold max ⊥ s)) := by
  have e : Finset.univ.fold max ⊥ s = Finset.univ.sup s := rfl
  rw [max_eq_right bot_le, e]
  obtain ⟨j, -, hj⟩ := Finset.exists_mem_eq_sup Finset.univ ⟨⟨0, hn⟩, Finset.mem_univ _⟩ s
  rw [hj]
  exact hs j

/-- One row of attention, for real scores and a real shift `M`: the unshifted weights summed against the values and
    divided once are the shifted, normalised weights summed against the values. -/
theorem row_eq_shift {n : ℕ} (hn : 0 < n) (s v : Fin n → EReal) (hs : ∀ j, IsReal (s j)) {M : EReal} (hM : IsReal M) :
    Ideal.div (∑ j, Ideal.exp (s j) * v j) (∑ j, Ideal.exp (s j))
      = ∑ j, Ideal.div (Ideal.exp (s j - M)) (∑ j, Ideal.exp (s j - M)) * v j := by
  choose r hr using hs
  obtain ⟨μ, rfl⟩ := hM
  have hsum : ∀ f : Fin n → ℝ, ∑ j, (f j : EReal) = ((∑ j, f j : ℝ) : EReal) := fun f => by
    classical
    induction (Finset.univ : Finset (Fin n)) using Finset.induction_on with
    | empty => simp
    | insert i t hi ih => rw [Finset.sum_insert hi, Finset.sum_insert hi, ih, EReal.coe_add]
  have hexp : ∀ x : ℝ, Ideal.exp (x : EReal) = ((Real.exp x : ℝ) : EReal) := fun x => rfl
  have hne : (Finset.univ : Finset (Fin n)).Nonempty := ⟨⟨0, hn⟩, Finset.mem_univ _⟩
  have hL : 0 < ∑ j, Real.exp (r j) := Finset.sum_pos (fun j _ => Real.exp_pos _) hne
  have hL' : 0 < ∑ j, Real.exp (r j - μ) := Finset.sum_pos (fun j _ => Real.exp_pos _) hne
  have hshift : ∑ j, Real.exp (r j - μ) = (∑ j, Real.exp (r j)) * Real.exp (-μ) := by
    rw [Finset.sum_mul]
    exact Finset.sum_congr rfl fun j _ => by rw [← Real.exp_add, sub_eq_add_neg]
  have hw : ∀ j, Real.exp (r j - μ) * (1 / ∑ j, Real.exp (r j - μ)) = Real.exp (r j) * (1 / ∑ j, Real.exp (r j)) := fun j => by
    have h1 : Real.exp (-μ) ≠ 0 := (Real.exp_pos _).ne'
    rw [hshift, sub_eq_add_neg, Real.exp_add]
    field_simp
  simp only [hr, ← EReal.coe_sub, hexp, hsum]
  rw [Ideal.div_coe hL.ne', ← sum_mul_real _ _ (one_div_nonneg.mpr hL.le)]
  refine Finset.sum_congr rfl fun j _ => ?_
  rw [Ideal.div_coe hL'.ne', ← EReal.coe_mul, hw, EReal.coe_mul, mul_right_comm]

/-- One row of attention, for real scores: the row written without a shift is the row written with the maximum
    subtracted, as softmax is usually written. -/
theorem row_eq {n : ℕ} (hn : 0 < n) (s v : Fin n → EReal) (hs : ∀ j, IsReal (s j)) :
    Ideal.div (∑ j, Ideal.exp (s j) * v j) (∑ j, Ideal.exp (s j))
      = ∑ j, Ideal.div (Ideal.exp (s j - max ⊥ (Finset.univ.fold max ⊥ s)))
          (∑ j, Ideal.exp (s j - max ⊥ (Finset.univ.fold max ⊥ s))) * v j :=
  row_eq_shift hn s v hs (max_isReal hn s hs)

end Cert.Softmax
-- ==== Proof.Precondition.lean ====
/-
  What the precondition says: every entry of the query and of the key is a real number, and the mask bit is set.
-/
module

public import proofs.«01_k».proof.Proof.Gen.Pre_finite_and_visible
public import proofs.«01_k».proof.Proof.Softmax
public import Idealize.ShloMosaic.Lib.ReduceAll
public import Idealize.ShloMosaic.Lib.Pointwise

@[expose] public section

set_option maxRecDepth 16384

noncomputable section

namespace Cert.Pre_finite_and_visible.At

open Cert.Pre_finite_and_visible Cert.Pre_finite_and_visible.Gen Idealize.ShloMosaic

/-- An extended real whose absolute value compares below positive infinity is a real number. -/
theorem isReal_of_abs_lt (x : EReal) (h : Ideal.cmp .olt (max x (-x)) (Ideal.ofBits .f32 0x7F800000#32) = 1#1) :
    Softmax.IsReal x := by
  rw [Softmax.posInf_eq] at h
  induction x with
  | bot => simp [Ideal.cmp] at h
  | coe r => exact ⟨r, rfl⟩
  | top => simp [Ideal.cmp] at h

/-- A scalar's shape has one index. -/
instance : Subsingleton S_.Idx := ⟨fun a b => funext fun k => k.elim0⟩

/-- Where the precondition holds, the query and the key hold real numbers only and the mask bit is set. -/
theorem reads (q k v : FVec Ideal S1x2048x12x64 .f32) (mask : IVec S1x1x1x1 1) (pos : IVec S2048 32) (pf : IVec S_ 32)
    (proj : FVec Ideal S1x1x64x7 .f32) (h : fn (F := Ideal) q k v mask pos pf proj ix0 = 1#1) :
    (∀ i, Softmax.IsReal (q i)) ∧ (∀ i, Softmax.IsReal (k i)) ∧ ∀ i, mask i = 1#1 := by
  obtain ⟨h1, hm⟩ := IntOp.andi_eq_one.1 h
  obtain ⟨hq, hk⟩ := IntOp.andi_eq_one.1 h1
  refine ⟨fun i => ?_, fun i => ?_, fun i => ?_⟩
  · exact isReal_of_abs_lt _ (Host.reduce_andi_all _ _ _ _ _ hq i)
  · exact isReal_of_abs_lt _ (Host.reduce_andi_all _ _ _ _ _ hk i)
  · exact Host.reduce_andi_all _ _ _ _ _ hm i

end Cert.Pre_finite_and_visible.At
-- ==== Proof.Block.lean ====
/-
  What one grid point computes: the kernel's payload read at an index. A block of 512 query rows is held against all
  2048 keys and values of one head.
-/
module

public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic

/-- Row `r`, lane `d` of the block that a grid point stores: with the scores `∑ e, (q r e · 1/8) · k x e`, the values
    weighted by the scores' exponentials and summed, divided by the exponentials' sum. -/
theorem pay_apply (q : Vec Ideal S1x512x64 .f32) (k v : Vec Ideal S1x2048x64 .f32) (r : Fin 512) (d : Fin 64) :
    k0_pay1 (F := Ideal) q k v (ix3 0 r d)
      = Ideal.div
          (∑ x : Fin 2048, Ideal.exp (∑ e : Fin 64, q (ix3 0 r e) * Ideal.ofBits .f32 0x3E000000#32 * k (ix3 0 x e))
            * v (ix3 0 x d))
          (∑ x : Fin 2048, Ideal.exp (∑ e : Fin 64, q (ix3 0 r e) * Ideal.ofBits .f32 0x3E000000#32 * k (ix3 0 x e))) := by
  pointwise [k0_pay1]

end Cert.KernelIdeal.Block
-- ==== Proof.KernelArray.lean ====
/-
  What the kernel's result holds after a run: the array that the 12 × 4 grid points write, one block of 512 query
  rows of one head each, and the result of @main, that array with a unit axis in front.
-/
module

public import proofs.«01_k».proof.Proof.Block
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Array

open Cert.KernelIdeal Cert.KernelIdeal.Gen Idealize.ShloMosaic Idealize.ShloMosaic.TcCoe
open Idealize.ShloMosaic.Pipeline (Dat)

variable (m : (ℓ : Loc nD τ sig) → Buf (Elt Ideal) ℓ) (ρ : Dev nD → PrngReg)

/-- Head `h`, row `r`, lane `d` of attention over arrays laid out [batch, row, head, lane], in the kernel's form: no
    maximum subtracted, one division at the end. -/
def attn (q k v : (⟨4, ![1, 2048, 12, 64]⟩ : Shape).Idx → EReal) (h : Fin 12) (r : Fin 2048) (d : Fin 64) : EReal :=
  Ideal.div
    (∑ x : Fin 2048, Ideal.exp (∑ e : Fin 64, q (ix4 0 r h e) * Ideal.ofBits .f32 0x3E000000#32 * k (ix4 0 x h e))
      * v (ix4 0 x h d))
    (∑ x : Fin 2048, Ideal.exp (∑ e : Fin 64, q (ix4 0 r h e) * Ideal.ofBits .f32 0x3E000000#32 * k (ix4 0 x h e)))

/-- The kernel's array [head, row, lane] as a function of the three arguments. -/
def out (c : Dev nD) : S12x2048x64.Idx → EReal := fun i =>
  attn (m ((c : Thread nD τ).loc main_arg0)) (m ((c : Thread nD τ).loc main_arg1)) (m ((c : Thread nD τ).loc main_arg2))
    (i 0) (i 1) (i 2)

/-- Point `t` of the grid works on head `t / 4` and, of queries and result, on row block `t % 4`. -/
theorem idx : ∀ t : Fin grid0.N, win0_0.index t = ![t.val / 4, t.val % 4, 0] ∧ win0_1.index t = ![t.val / 4, 0, 0]
    ∧ win0_2.index t = ![t.val / 4, 0, 0] ∧ win0_3.index t = ![t.val / 4, t.val % 4, 0] := by decide +kernel

/-- The head of point `t`. -/
def head (t : Fin cfg0.N) : Fin 12 := ⟨t.val / 4, by have h := t.isLt; have e : cfg0.N = 48 := N_0; omega⟩

/-- The array row of row `r` of point `t`'s block. -/
def row (t : Fin cfg0.N) (r : Fin 512) : Fin 2048 := ⟨t.val % 4 * 512 + r.val, by omega⟩

/-- The query array [head, row, lane] as the region finds it is the argument, transposed. -/
theorem q_array (c : Dev nD) (h : Fin 12) (x : Fin 2048) (e : Fin 64) :
    V m c main_v1 (ix3 h x e) = m ((c : Thread nD τ).loc main_arg0) (ix4 0 x h e) := by
  unfold V V0
  after_reads_at

/-- The key array [head, row, lane] as the region finds it is the argument, transposed. -/
theorem k_array (c : Dev nD) (h : Fin 12) (x : Fin 2048) (e : Fin 64) :
    V m c main_v3 (ix3 h x e) = m ((c : Thread nD τ).loc main_arg1) (ix4 0 x h e) := by
  unfold V V0
  after_reads_at

/-- The value array [head, row, lane] as the region finds it is the argument, transposed. -/
theorem v_array (c : Dev nD) (h : Fin 12) (x : Fin 2048) (e : Fin 64) :
    V m c main_v5 (ix3 h x e) = m ((c : Thread nD τ).loc main_arg2) (ix4 0 x h e) := by
  unfold V V0
  after_reads_at

/-- The query block of point `t` holds its rows of the query argument. -/
theorem q_block (c : Dev nD) (t : Fin cfg0.N) (r : Fin 512) (e : Fin 64) :
    iblk m c 0 t (ix3 0 r e) = m ((c : Thread nD τ).loc main_arg0) (ix4 0 (row t r) (head t) e) := by
  rw [← q_array m c (head t) (row t r) e]
  have hi := (idx t).1
  blk_ext [iblk, hi, row, head]

/-- The key block of point `t` holds its head of the key argument. -/
theorem k_block (c : Dev nD) (t : Fin cfg0.N) (x : Fin 2048) (e : Fin 64) :
    iblk m c 1 t (ix3 0 x e) = m ((c : Thread nD τ).loc main_arg1) (ix4 0 (x) (head t) e) := by
  rw [← k_array m c (head t) x e]
  have hi := (idx t).2.1
  blk_ext [iblk, hi, row, head]

/-- The value block of point `t` holds its head of the value argument. -/
theorem v_block (c : Dev nD) (t : Fin cfg0.N) (x : Fin 2048) (e : Fin 64) :
    iblk m c 2 t (ix3 0 x e) = m ((c : Thread nD τ).loc main_arg2) (ix4 0 (x) (head t) e) := by
  rw [← v_array m c (head t) x e]
  have hi := (idx t).2.2.1
  blk_ext [iblk, hi, row, head]

/-- What point `t` stores at row `r`, lane `d` of its block is the array's value at its head and row. -/
theorem pay_block (c : Dev nD) (t : Fin cfg0.N) (r : Fin 512) (d : Fin 64) :
    k0_pay1 (F := Ideal) (iblk m c 0 t) (iblk m c 1 t) (iblk m c 2 t) (ix3 0 r d)
      = out m c (ix3 (head t) (row t r) d) := by
  rw [Block.pay_apply]
  show _ = attn _ _ _ (head t) (row t r) d
  unfold attn
  simp only [q_block, k_block, v_block]

/-- The kernel's array after the run: every index is in the block of one grid point, which writes its value. -/
theorem final (c : Dev nD) : (dats m 0 c).arrAt 3 cfg0.N = out m c := by
  refine (dats m 0 c).arrAt_eq_of_covers 3 _ (by decide +kernel) fun t hf y => ?_
  blk_simp
  rw [after0_3]
  frame_out
  obtain ⟨r, d, rfl⟩ : ∃ (r : Fin 512) (d : Fin 64), y = ix3 0 r d := by
    idx_vars y
    obtain rfl : y0 = 0 := Subsingleton.elim _ _
    exact ⟨y1, y2, rfl⟩
  refine (pay_block m c t r d).trans ?_
  have hi := (idx t).2.2.2
  blk_ext [hi, row, head]

/-- The result of @main: the kernel's array with a unit axis in front. -/
def result (c : Dev nD) : S1x12x2048x64.Idx → EReal := fun i =>
  attn (m ((c : Thread nD τ).loc main_arg0)) (m ((c : Thread nD τ).loc main_arg1)) (m ((c : Thread nD τ).loc main_arg2))
    (i 1) (i 2) (i 3)

/-- The result buffer after the region and the reshape behind it. -/
theorem tail (c : Dev nD) : Pipeline.afterTail₀ cfgs (dats m) 0 (V0 m) [hostOps1] c main_v7 = result m c := by
  have h6 : Pipeline.withArrays (cfgs 0).spec c (V0 m c) (fun w => (dats m 0 c).arrAt w (cfgs 0).N) (Proc.devRef .tc main_v6)
      = out m c :=
    (Pipeline.withArrays_arr spec0 (by decide) c (V0 m c) (fun w => (dats m 0 c).arrAt w (cfgs 0).N) 3).trans (final m c)
  unfold Pipeline.afterTail₀
  funext i
  idx_vars i
  after_reads_at
  rw [h6]
  rfl

/-- The run of the kernel: the result buffer holds `result`, and the arguments are unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    have rest : ∀ b, b ∈ Pipeline.restRefs sig (cfgs 0).spec → _ := (h c).2
    ⟨(rest main_v7 (Pipeline.mem_restRefs_of main_v7 (by decide) (by decide))).trans (tail m c),
      (rest main_arg0 (Pipeline.mem_restRefs_of main_arg0 (by decide) (by decide))).trans (W_main_arg0 m (dats m) c),
      (rest main_arg1 (Pipeline.mem_restRefs_of main_arg1 (by decide) (by decide))).trans (W_main_arg1 m (dats m) c),
      (rest main_arg2 (Pipeline.mem_restRefs_of main_arg2 (by decide) (by decide))).trans (W_main_arg2 m (dats m) c),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c),
      (rest main_arg5 (Pipeline.mem_restRefs_of main_arg5 (by decide) (by decide))).trans (W_main_arg5 m (dats m) c),
      (rest main_arg6 (Pipeline.mem_restRefs_of main_arg6 (by decide) (by decide))).trans (W_main_arg6 m (dats m) c)⟩)
    (run_main m ρ)

end Cert.KernelIdeal.Array
-- ==== Proof.Reference.lean ====
/-
  What the reference computes: its result read at an index.
-/
module

public import proofs.«01_k».proof.Proof.Gen.ReferenceIdeal.Run
public import Idealize.ShloMosaic.Lib.Pointwise

@[expose] public section

set_option maxRecDepth 16384

noncomputable section

namespace Cert.ReferenceIdeal.At

open Cert.ReferenceIdeal Cert.ReferenceIdeal.Gen Idealize.ShloMosaic Idealize.ShloMosaic.TcCoe

/-- The score of query row `r` against key `x` in head `h`: the dot product over the square root of the head size,
    or negative infinity where the mask bit is not set. -/
def score (q k : S1x2048x12x64.Idx → EReal) (bit : BitVec 1) (h : Fin 12) (r x : Fin 2048) : EReal :=
  Scalar.select bit
    (Ideal.div (∑ e : Fin 64, q (ix4 0 r h e) * k (ix4 0 x h e)) (Ideal.sqrt (Ideal.ofBits .f32 0x42800000#32)))
    (Ideal.ofBits .f32 0xFF800000#32)

/-- The maximum of a row's scores. -/
def rowMax (q k : S1x2048x12x64.Idx → EReal) (bit : BitVec 1) (h : Fin 12) (r : Fin 2048) : EReal :=
  max (Ideal.ofBits .f32 0xFF800000#32)
    (Finset.univ.fold max (Ideal.ofBits .f32 0xFF800000#32) (score q k bit h r))

/-- Head `h`, row `r`, lane `d` of attention in the reference's form: the softmax weights of the row's scores, the
    maximum subtracted, against the values. -/
def attn (q k v : S1x2048x12x64.Idx → EReal) (bit : BitVec 1) (h : Fin 12) (r : Fin 2048) (d : Fin 64) : EReal :=
  ∑ x : Fin 2048, Ideal.div (Ideal.exp (score q k bit h r x - rowMax q k bit h r))
      (∑ x : Fin 2048, Ideal.exp (score q k bit h r x - rowMax q k bit h r))
    * v (ix4 0 x h d)

/-! The reference's arrays, one stage at a time. -/

/-- The scores of every head, row and key. -/
def scoreArr (q k : FVec Ideal S1x2048x12x64 .f32) (mask : IVec S1x1x1x1 1) : FVec Ideal S1x12x2048x2048 .f32 :=
  select (broadcastInDim S1x12x2048x2048 ![0, 1, 2, 3] bcast_S1x1x1x1_S1x12x2048x2048_0_1_2_3 mask)
    (Host.divf
      (Host.dotGeneral dot_S1x12x2048x64_S1x12x2048x64_S1x12x2048x2048_3_3_2_2_01_01 none
        (transpose S1x12x2048x64 [0, 2, 1, 3] q transposes_S1x2048x12x64_S1x12x2048x64_0_2_1_3)
        (transpose S1x12x2048x64 [0, 2, 1, 3] k transposes_S1x2048x12x64_S1x12x2048x64_0_2_1_3))
      (broadcastInDim S1x12x2048x2048 ![] bcast_S_S1x12x2048x2048 (Host.sqrt (constant S_ .f32 0x42800000#32))))
    (broadcastInDim S1x12x2048x2048 ![] bcast_S_S1x12x2048x2048 (id (constant S_ .f32 0xFF800000#32)))

/-- The maximum of each row of scores. -/
def maxArr (s : FVec Ideal S1x12x2048x2048 .f32) : FVec Ideal S1x12x2048 .f32 :=
  maximumf (broadcastInDim S1x12x2048 ![] bcast_S_S1x12x2048 (constant S_ .f32 0xFF800000#32))
    (Host.reduce FloatOps.maximumf s (constant S_ .f32 0xFF800000#32) reducesTo_S1x12x2048x2048_S1x12x2048_d3 h_S_)

/-- The exponential of each score less its row's maximum. -/
def expArr (s : FVec Ideal S1x12x2048x2048 .f32) (mx : FVec Ideal S1x12x2048 .f32) : FVec Ideal S1x12x2048x2048 .f32 :=
  Host.exp (subf s (broadcastInDim S1x12x2048x2048 ![0, 1, 2, 3] bcast_S1x12x2048x1_S1x12x2048x2048_0_1_2_3
    (broadcastInDim S1x12x2048x1 ![0, 1, 2] bcast_S1x12x2048_S1x12x2048x1_0_1_2 mx)))

/-- The exponentials, each divided by its row's sum, against the values. -/
def outArr (p : FVec Ideal S1x12x2048x2048 .f32) (v : FVec Ideal S1x2048x12x64 .f32) : FVec Ideal S1x12x2048x64 .f32 :=
  Host.dotGeneral dot_S1x12x2048x2048_S1x12x2048x64_S1x12x2048x64_3_2_2_3_01_01 none
    (Host.divf p (broadcastInDim S1x12x2048x2048 ![0, 1, 2, 3] bcast_S1x12x2048x1_S1x12x2048x2048_0_1_2_3
      (broadcastInDim S1x12x2048x1 ![0, 1, 2] bcast_S1x12x2048_S1x12x2048x1_0_1_2
        (Host.reduceAdd p (constant S_ .f32 0x00000000#32) reducesTo_S1x12x2048x2048_S1x12x2048_d3 h_S_))))
    (transpose S1x12x2048x64 [0, 2, 1, 3] v transposes_S1x2048x12x64_S1x12x2048x64_0_2_1_3)

/-- The score array at an index is the score. -/
theorem scoreArr_apply (q k : FVec Ideal S1x2048x12x64 .f32) (mask : IVec S1x1x1x1 1) (h : Fin 12) (r x : Fin 2048) :
    scoreArr q k mask (ix4 0 h r x) = score q k (mask (ix4 0 0 0 0)) h r x := by
  unfold scoreArr score
  pointwise
  rfl

/-- Equal operations fold to equal results. -/
theorem fold_op_eq {ι α : Type} (t : Finset ι) (f : ι → α) (b : α) (o o' : α → α → α) [Std.Commutative o] [Std.Associative o]
    [Std.Commutative o'] [Std.Associative o'] (e : o = o') : t.fold o b f = t.fold o' b f := by
  subst e
  rfl

/-- The maximum over the keys, as a fold over the keys of one row. -/
theorem rowReduce_apply (s : FVec Ideal S1x12x2048x2048 .f32) (b : FVec Ideal S_ .f32) (h : Fin 12) (r : Fin 2048) :
    Host.reduce FloatOps.maximumf s b reducesTo_S1x12x2048x2048_S1x12x2048_d3 h_S_ (ix3 0 h r)
      = Finset.univ.fold max (b (Shape.Idx.first h_S_)) fun x : Fin 2048 => s (ix4 0 h r x) := by
  have hr : S1x12x2048x2048.Reduces [3] S1x12x2048 := by decide
  have hl : ∀ x : Fin 2048, hr.lift (ix3 0 h r) x = ix4 0 h r x := fun x => by
    funext a
    fin_cases a <;> rfl
  have hf : (s ∘ hr.lift (ix3 0 h r)) = fun x : Fin 2048 => s (ix4 0 h r x) := funext fun x => congrArg s (hl x)
  refine (Host.reduce_eq_fold_single FloatOps.maximumf s b _ hr h_S_ (ix3 0 h r)).trans ?_
  refine (congrArg (fun f => Finset.fold FloatOps.maximumf (b (Shape.Idx.first h_S_)) f (Finset.univ : Finset (Fin 2048))) hf).trans ?_
  exact fold_op_eq _ _ _ _ _ rfl

/-- The elementwise maximum at an index. -/
theorem max_at {t : Shape} (x y : FVec Ideal t .f32) (i : t.Idx) : maximumf x y i = max (x i) (y i) := rfl

/-- A constant at an index. -/
theorem const_at {t : Shape} (b : BitVec 32) (i : t.Idx) : constant (F := Ideal) t .f32 b i = Ideal.ofBits .f32 b := rfl

/-- A constant spread over a shape, at an index. -/
theorem spread_const_at {t u : Shape} {dims : Fin t.rank → Fin u.rank} (b : BitVec 32) (hb : t.BroadcastsInDim u dims) (i : u.Idx) :
    broadcastInDim u dims hb (constant (F := Ideal) t .f32 b) i = Ideal.ofBits .f32 b := rfl

/-- The array of maxima at an index: the maximum of that row. -/
theorem maxArr_apply (s : FVec Ideal S1x12x2048x2048 .f32) (h : Fin 12) (r : Fin 2048) :
    maxArr s (ix3 0 h r) = max (Ideal.ofBits .f32 0xFF800000#32)
      (Finset.univ.fold max (Ideal.ofBits .f32 0xFF800000#32) fun x : Fin 2048 => s (ix4 0 h r x)) := by
  unfold maxArr
  refine (max_at _ _ _).trans (congrArg₂ max ?_ ?_)
  · exact spread_const_at _ _ _
  · refine (rowReduce_apply s _ h r).trans ?_
    rw [const_at]

/-- The array of exponentials at an index. -/
theorem expArr_apply (s : FVec Ideal S1x12x2048x2048 .f32) (mx : FVec Ideal S1x12x2048 .f32) (h : Fin 12) (r x : Fin 2048) :
    expArr s mx (ix4 0 h r x) = Ideal.exp (s (ix4 0 h r x) - mx (ix3 0 h r)) := by
  unfold expArr
  pointwise

/-- The result array at an index. -/
theorem outArr_apply (p : FVec Ideal S1x12x2048x2048 .f32) (v : FVec Ideal S1x2048x12x64 .f32) (h : Fin 12) (r : Fin 2048)
    (d : Fin 64) : outArr p v (ix4 0 h r d)
      = ∑ x : Fin 2048, Ideal.div (p (ix4 0 h r x)) (∑ x : Fin 2048, p (ix4 0 h r x)) * v (ix4 0 x h d) := by
  unfold outArr
  pointwise

variable (m : (ℓ : Loc nD τ sig) → Buf (Elt Ideal) ℓ) (c : Dev nD)

/-- The reference's result is the stages' composition. -/
theorem res_eq : Value.res_out0 (F := Ideal) m c
    = outArr (expArr
        (scoreArr (m ((c : Thread nD τ).loc main_arg0)) (m ((c : Thread nD τ).loc main_arg1)) (m ((c : Thread nD τ).loc main_arg3)))
        (maxArr (scoreArr (m ((c : Thread nD τ).loc main_arg0)) (m ((c : Thread nD τ).loc main_arg1))
          (m ((c : Thread nD τ).loc main_arg3))))) (m ((c : Thread nD τ).loc main_arg2)) := by
  unfold outArr expArr maxArr scoreArr
  show Value.res_main_v19 (F := Ideal) m c = _
  unfold Value.res_main_v19
  rfl

/-- The reference's result at head `h`, row `r`, lane `d` is attention of its arguments there. -/
theorem res_apply (h : Fin 12) (r : Fin 2048) (d : Fin 64) :
    Value.res_out0 (F := Ideal) m c (ix4 0 h r d)
      = attn (m ((c : Thread nD τ).loc main_arg0)) (m ((c : Thread nD τ).loc main_arg1)) (m ((c : Thread nD τ).loc main_arg2))
          (m ((c : Thread nD τ).loc main_arg3) (ix4 0 0 0 0)) h r d := by
  rw [res_eq, outArr_apply]
  simp only [expArr_apply, maxArr_apply, scoreArr_apply]
  rfl

end Cert.ReferenceIdeal.At
-- ==== Proof.Equation.lean ====
/-
  The equation: where the query and the key are real and the mask bit is set, attention in the kernel's form is
  attention in the reference's form, whatever the values are.
-/
module

public import proofs.«01_k».proof.Proof.Softmax
public import proofs.«01_k».proof.Proof.KernelArray
public import proofs.«01_k».proof.Proof.Reference

@[expose] public section

set_option maxRecDepth 16384

noncomputable section

namespace Cert.Equation

open Idealize.ShloMosaic

variable (q k v : (⟨4, ![1, 2048, 12, 64]⟩ : Shape).Idx → EReal) (h : Fin 12) (r : Fin 2048) (d : Fin 64)

/-- With the mask bit set, the reference's score is the kernel's: the query scaled by 1/8 before the product. -/
theorem score_visible (x : Fin 2048) :
    ReferenceIdeal.At.score q k 1#1 h r x
      = ∑ e : Fin 64, q (ix4 0 r h e) * Ideal.ofBits .f32 0x3E000000#32 * k (ix4 0 x h e) :=
  (Softmax.score_eq (fun e => q (ix4 0 r h e)) (fun e => k (ix4 0 x h e))).symm

/-- A score of real queries and keys is real. -/
theorem score_isReal (hq : ∀ i, Softmax.IsReal (q i)) (hk : ∀ i, Softmax.IsReal (k i)) (x : Fin 2048) :
    Softmax.IsReal (ReferenceIdeal.At.score q k 1#1 h r x) := by
  rw [score_visible]
  refine Softmax.IsReal.sum _ _ fun e => ((hq _).mul ?_).mul (hk _)
  exact ⟨_, Softmax.scale_eq⟩

/-- The two forms of attention agree. -/
theorem attn_eq (hq : ∀ i, Softmax.IsReal (q i)) (hk : ∀ i, Softmax.IsReal (k i)) :
    ReferenceIdeal.At.attn q k v 1#1 h r d = KernelIdeal.Array.attn q k v h r d := by
  have e := Softmax.row_eq (by norm_num) (ReferenceIdeal.At.score q k 1#1 h r) (fun x => v (ix4 0 x h d))
    (score_isReal q k h r hq hk)
  unfold ReferenceIdeal.At.attn ReferenceIdeal.At.rowMax KernelIdeal.Array.attn
  rw [Softmax.negInf_eq, ← e]
  simp only [score_visible]

end Cert.Equation
-- ==== Proof.lean ====
/-
  The proof of `Cert.Claim`: every run of the kernel, of its ideal twin and of the reference ends with its arguments
  unchanged and its counters at zero, and, where the query and the key are finite and the mask bit is set, the ideal
  kernel and the reference end with the same result.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_visible
public import proofs.«01_k».proof.Proof.Precondition
public import proofs.«01_k».proof.Proof.KernelArray
public import proofs.«01_k».proof.Proof.Reference
public import proofs.«01_k».proof.Proof.Equation
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- Every run of the reference ends with its arguments unchanged and its counters at zero. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6))
        ∧ r.2.sem = fun _ => 0) :=
  (θ_run ReferenceIdeal.defs _ _).mono
    (fun r h => ⟨fun c => (h c).2, Idealize.ShloMosaic.sem_eq_zero_of_no_sems (by decide) r.2⟩)
    (ReferenceIdeal.Value.run (F := Ideal) m g)

/-- On arguments that agree and meet the precondition, the reference's result is the kernel's. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (hpre : Pre_finite_and_visible.fn (F := Ideal)
      (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6)) = fun _ => 1#1)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3)) :
    ReferenceIdeal.Value.res_out0 (F := Ideal) m' c = KernelIdeal.Array.result m c := by
  obtain ⟨hq, hk, hm⟩ := Pre_finite_and_visible.At.reads _ _ _ _ _ _ _ (congrFun hpre ix0)
  funext i
  idx_vars i
  obtain rfl : i0 = 0 := Subsingleton.elim _ _
  refine (ReferenceIdeal.At.res_apply m' c i1 i2 i3).trans ?_
  rw [h0, h1, h2, h3, hm]
  exact Equation.attn_eq _ _ _ _ _ _ hq hk

/-- Every claim of the certificate holds. -/
theorem claim : Cert.Claim := ⟨Cert.Kernel.Gen.facts, Cert.KernelIdeal.Gen.facts, Cert.ReferenceIdeal.Gen.facts, Cert.Pre_finite_and_visible.Gen.facts, by
  refine ⟨fun m g _ => Kernel.Gen.frame m g, fun m g _ => KernelIdeal.Gen.frame m g, fun m g _ => KernelIdeal.Gen.frame m g,
    fun m g _ => frame_reference m g, fun m g _ => frame_reference m g, trivial, fun m g m' g' hpre hagree => ?_⟩
  refine ⟨fun c => KernelIdeal.Array.result m c, KernelIdeal.Array.run m g, ?_⟩
  refine (θ_run ReferenceIdeal.defs _ _).mono (fun r h c => ⟨?_, (h c).2⟩) (ReferenceIdeal.Value.run (F := Ideal) m' g')
  obtain ⟨h0, h1, h2, h3, -⟩ := hagree c
  exact (h c).1.trans (result_eq m m' c (hpre c) h0 h1 h2 h3)⟩

end Cert.Proof

end
